-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_molecules [hPre_equal_molecules : Cert.Pre_equal_molecules.Facts] (m : (ℓ : Loc Cert.KernelIdeal.nD Cert.KernelIdeal.τ Cert.KernelIdeal.sig) → Buf (Elt Ideal) ℓ) : Prop :=
  ∀ c : Dev Cert.KernelIdeal.nD,
    (Cert.Pre_equal_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_molecules [hPre_equal_molecules : Cert.Pre_equal_molecules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_equal_molecules [hKernelIdeal : Cert.KernelIdeal.Facts] [hPre_equal_molecules : Cert.Pre_equal_molecules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_molecules m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_equal_molecules [hReferenceIdeal : Cert.ReferenceIdeal.Facts] [hPre_equal_molecules : Cert.Pre_equal_molecules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_molecules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_groups" .f32 0x3D9D89D9#32 ((13⁻¹ : ℝ) : EReal)

def algebraic_KernelIdeal_ReferenceIdeal_pre_equal_molecules [hKernelIdeal : Cert.KernelIdeal.Facts] [hReferenceIdeal : Cert.ReferenceIdeal.Facts] [hPre_equal_molecules : Cert.Pre_equal_molecules.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_molecules m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_equal_molecules : Cert.Pre_equal_molecules.Facts),
    quiescent_Kernel (hKernel := hKernel)
    ∧ quiescent_KernelIdeal (hKernelIdeal := hKernelIdeal)
    ∧ quiescent_KernelIdeal_pre_equal_molecules (hKernelIdeal := hKernelIdeal) (hPre_equal_molecules := hPre_equal_molecules)
    ∧ quiescent_ReferenceIdeal (hReferenceIdeal := hReferenceIdeal)
    ∧ quiescent_ReferenceIdeal_pre_equal_molecules (hReferenceIdeal := hReferenceIdeal) (hPre_equal_molecules := hPre_equal_molecules)
    ∧ preserves_Kernel_KernelIdeal
    ∧ algebraic_KernelIdeal_ReferenceIdeal_pre_equal_molecules (hKernelIdeal := hKernelIdeal) (hReferenceIdeal := hReferenceIdeal) (hPre_equal_molecules := hPre_equal_molecules)
-- ==== Pre_equal_molecules.lean ====
abbrev S102400x300 : Shape := ⟨2, ![102400, 300]⟩
abbrev S53248x133 : Shape := ⟨2, ![53248, 133]⟩
abbrev S4096 : Shape := ⟨1, ![4096]⟩
abbrev S133x300 : Shape := ⟨2, ![133, 300]⟩
abbrev S300 : Shape := ⟨1, ![300]⟩
abbrev S300x300 : Shape := ⟨2, ![300, 300]⟩
abbrev S600x300 : Shape := ⟨2, ![600, 300]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S102400x300 .f32) (main_arg1 : FVec F S53248x133 .f32) (main_arg2 : IVec S4096 32) (main_arg3 : IVec S4096 32) (main_arg4 : FVec F S133x300 .f32) (main_arg5 : FVec F S300 .f32) (main_arg6 : FVec F S300x300 .f32) (main_arg7 : FVec F S300 .f32) (main_arg8 : FVec F S600x300 .f32) (main_arg9 : FVec F S300 .f32) : IVec S_ 1 :=
  let main_c : IVec S_ 32 := constantI S_ 32 25#32
  let main_v0 : IVec S4096 32 := broadcastInDim S4096 ![] bcast_S_S4096 main_c
  let main_v1 : IVec S4096 1 := cmpi .eq main_arg2 main_v0
  let main_c_0 : IVec S_ 1 := constantI S_ 1 1#1
  let main_v2 : IVec S_ 1 := (fun x v => Host.reduce IntOp.andi x v reducesTo_S4096_S_d0 h_S_) main_v1 main_c_0
  main_v2
-- ==== Kernel.lean ====
abbrev S102400x300 : Shape := ⟨2, ![102400, 300]⟩
abbrev S53248x133 : Shape := ⟨2, ![53248, 133]⟩
abbrev S4096 : Shape := ⟨1, ![4096]⟩
abbrev S133x300 : Shape := ⟨2, ![133, 300]⟩
abbrev S300 : Shape := ⟨1, ![300]⟩
abbrev S300x300 : Shape := ⟨2, ![300, 300]⟩
abbrev S600x300 : Shape := ⟨2, ![600, 300]⟩
abbrev S1x300 : Shape := ⟨2, ![1, 300]⟩
abbrev S4096x300 : Shape := ⟨2, ![4096, 300]⟩
abbrev S6656x133 : Shape := ⟨2, ![6656, 133]⟩
abbrev S512x300 : Shape := ⟨2, ![512, 300]⟩
abbrev S6656x300 : Shape := ⟨2, ![6656, 300]⟩
abbrev S512x13x300 : Shape := ⟨3, ![512, 13, 300]⟩
abbrev S6400x300 : Shape := ⟨2, ![6400, 300]⟩
abbrev S256x300 : Shape := ⟨2, ![256, 300]⟩
abbrev S256x1x300 : Shape := ⟨3, ![256, 1, 300]⟩
abbrev S256x25x300 : Shape := ⟨3, ![256, 25, 300]⟩

abbrev nBuf : Space → Nat
  | .hbm => 20
  | .vmem => 21
  | .smem => 0
  | _ => 0

abbrev bufTy : (tb : Table) → Fin (tcTables nBuf tb) → BufTy
  | .hbm, ⟨0, _⟩ => ⟨S102400x300, .f32⟩
  | .hbm, ⟨1, _⟩ => ⟨S53248x133, .f32⟩
  | .hbm, ⟨2, _⟩ => ⟨S4096, .i32⟩
  | .hbm, ⟨3, _⟩ => ⟨S4096, .i32⟩
  | .hbm, ⟨4, _⟩ => ⟨S133x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S600x300, .f32⟩
  | .hbm, ⟨9, _⟩ => ⟨S300, .f32⟩
  | .hbm, ⟨10, _⟩ => ⟨S300x300, .f32⟩
  | .hbm, ⟨11, _⟩ => ⟨S300x300, .bf16⟩
  | .hbm, ⟨12, _⟩ => ⟨S300x300, .f32⟩
  | .hbm, ⟨13, _⟩ => ⟨S1x300, .f32⟩
  | .hbm, ⟨14, _⟩ => ⟨S1x300, .f32⟩
  | .hbm, ⟨15, _⟩ => ⟨S1x300, .f32⟩
  | .hbm, ⟨16, _⟩ => ⟨S102400x300, .bf16⟩
  | .hbm, ⟨17, _⟩ => ⟨S4096x300, .f32⟩
  | .hbm, ⟨18, _⟩ => ⟨S4096x300, .f32⟩
  | .hbm, ⟨19, _⟩ => ⟨S102400x300, .f32⟩
  | .local _ .vmem, ⟨0, _⟩ => ⟨S6656x133, .f32⟩
  | .local _ .vmem, ⟨1, _⟩ => ⟨S6656x133, .f32⟩
  | .local _ .vmem, ⟨2, _⟩ => ⟨S133x300, .f32⟩
  | .local _ .vmem, ⟨3, _⟩ => ⟨S1x300, .f32⟩
  | .local _ .vmem, ⟨4, _⟩ => ⟨S300x300, .f32⟩
  | .local _ .vmem, ⟨5, _⟩ => ⟨S1x300, .f32⟩
  | .local _ .vmem, ⟨6, _⟩ => ⟨S300x300, .f32⟩
  | .local _ .vmem, ⟨7, _⟩ => ⟨S1x300, .f32⟩
  | .local _ .vmem, ⟨8, _⟩ => ⟨S512x300, .f32⟩
  | .local _ .vmem, ⟨9, _⟩ => ⟨S512x300, .f32⟩
  | .local _ .vmem, ⟨10, _⟩ => ⟨S512x300, .f32⟩
  | .local _ .vmem, ⟨11, _⟩ => ⟨S512x300, .f32⟩
  | .local _ .vmem, ⟨12, _⟩ => ⟨S6400x300, .bf16⟩
  | .local _ .vmem, ⟨13, _⟩ => ⟨S6400x300, .bf16⟩
  | .local _ .vmem, ⟨14, _⟩ => ⟨S256x300, .f32⟩
  | .local _ .vmem, ⟨15, _⟩ => ⟨S256x300, .f32⟩
  | .local _ .vmem, ⟨16, _⟩ => ⟨S256x300, .f32⟩
  | .local _ .vmem, ⟨17, _⟩ => ⟨S256x300, .f32⟩
  | .local _ .vmem, ⟨18, _⟩ => ⟨S300x300, .bf16⟩
  | .local _ .vmem, ⟨19, _⟩ => ⟨S6400x300, .f32⟩
  | .local _ .vmem, ⟨20, _⟩ => ⟨S6400x300, .f32⟩
  | _, _ => ⟨S102400x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6656x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S133x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x300 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S300x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "inv_groups" => some ((13⁻¹ : ℝ) : EReal)
  | _ => none
-- ==== ReferenceIdeal.lean ====
abbrev S102400x300 : Shape := ⟨2, ![102400, 300]⟩
abbrev S53248x133 : Shape := ⟨2, ![53248, 133]⟩
abbrev S4096 : Shape := ⟨1, ![4096]⟩
abbrev S133x300 : Shape := ⟨2, ![133, 300]⟩
abbrev S300 : Shape := ⟨1, ![300]⟩
abbrev S300x300 : Shape := ⟨2, ![300, 300]⟩
abbrev S600x300 : Shape := ⟨2, ![600, 300]⟩
abbrev S53248x300 : Shape := ⟨2, ![53248, 300]⟩
abbrev S1x300 : Shape := ⟨2, ![1, 300]⟩
abbrev S_ : Shape := ⟨0, ![]⟩
abbrev S4096x13x300 : Shape := ⟨3, ![4096, 13, 300]⟩
abbrev S4096x300 : Shape := ⟨2, ![4096, 300]⟩
abbrev S1 : Shape := ⟨1, ![1]⟩
abbrev S4095 : Shape := ⟨1, ![4095]⟩
abbrev S102400 : Shape := ⟨1, ![102400]⟩
abbrev S4096x1 : Shape := ⟨2, ![4096, 1]⟩
abbrev S102400x1 : Shape := ⟨2, ![102400, 1]⟩
abbrev S1x1 : Shape := ⟨2, ![1, 1]⟩
abbrev S102400x600 : Shape := ⟨2, ![102400, 600]⟩

abbrev nBuf : Space → Nat
  | .hbm => 94
  | .vmem => 0
  | .smem => 0
  | _ => 0

abbrev bufTy : (tb : Table) → Fin (tcTables nBuf tb) → BufTy
  | .hbm, ⟨0, _⟩ => ⟨S102400x300, .f32⟩
  | .hbm, ⟨1, _⟩ => ⟨S53248x133, .f32⟩
  | .hbm, ⟨2, _⟩ => ⟨S4096, .i32⟩
  | .hbm, ⟨3, _⟩ => ⟨S4096, .i32⟩
  | .hbm, ⟨4, _⟩ => ⟨S133x300, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S600x300, .f32⟩
  | .hbm, ⟨9, _⟩ => ⟨S300, .f32⟩
  | .hbm, ⟨10, _⟩ => ⟨S53248x300, .f32⟩
  | .hbm, ⟨11, _⟩ => ⟨S1x300, .f32⟩
  | .hbm, ⟨12, _⟩ => ⟨S53248x300, .f32⟩
  | .hbm, ⟨13, _⟩ => ⟨S53248x300, .f32⟩
  | .hbm, ⟨14, _⟩ => ⟨S_, .f32⟩
  | .hbm, ⟨15, _⟩ => ⟨S53248x300, .f32⟩
  | .hbm, ⟨16, _⟩ => ⟨S53248x300, .f32⟩
  | .hbm, ⟨17, _⟩ => ⟨S53248x300, .f32⟩
  | .hbm, ⟨18, _⟩ => ⟨S1x300, .f32⟩
  | .hbm, ⟨19, _⟩ => ⟨S53248x300, .f32⟩
  | .hbm, ⟨20, _⟩ => ⟨S53248x300, .f32⟩
  | .hbm, ⟨21, _⟩ => ⟨S4096x13x300, .f32⟩
  | .hbm, ⟨22, _⟩ => ⟨S_, .f32⟩
  | .hbm, ⟨23, _⟩ => ⟨S4096x300, .f32⟩
  | .hbm, ⟨24, _⟩ => ⟨S_, .f32⟩
  | .hbm, ⟨25, _⟩ => ⟨S4096x300, .f32⟩
  | .hbm, ⟨26, _⟩ => ⟨S4096x300, .f32⟩
  | .hbm, ⟨27, _⟩ => ⟨S1, .i32⟩
  | .hbm, ⟨28, _⟩ => ⟨S4095, .i32⟩
  | .hbm, ⟨29, _⟩ => ⟨S4096, .i32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S_, .i32⟩
  | .hbm, ⟨38, _⟩ => ⟨S102400, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S_, .i32⟩
  | .hbm, ⟨48, _⟩ => ⟨S4096, .i32⟩
  | .hbm, ⟨49, _⟩ => ⟨S102400, .i32⟩
  | .hbm, ⟨50, _⟩ => ⟨S_, .i32⟩
  | .hbm, ⟨51, _⟩ => ⟨S_, .i32⟩
  | .hbm, ⟨52, _⟩ => ⟨S102400, .i32⟩
  | .hbm, ⟨53, _⟩ => ⟨S_, .i32⟩
  | .hbm, ⟨54, _⟩ => ⟨S102400, .i32⟩
  | .hbm, ⟨55, _⟩ => ⟨S102400, .i32⟩
  | .hbm, ⟨56, _⟩ => ⟨S_, .i32⟩
  | .hbm, ⟨57, _⟩ => ⟨S102400, .i32⟩
  | .hbm, ⟨58, _⟩ => ⟨S102400, .i1⟩
  | .hbm, ⟨59, _⟩ => ⟨S_, .i32⟩
  | .hbm, ⟨60, _⟩ => ⟨S102400, .i32⟩
  | .hbm, ⟨61, _⟩ => ⟨S102400, .i32⟩
  | .hbm, ⟨62, _⟩ => ⟨S102400, .i32⟩
  | .hbm, ⟨63, _⟩ => ⟨S102400x1, .i32⟩
  | .hbm, ⟨64, _⟩ => ⟨S1, .i32⟩
  | .hbm, ⟨65, _⟩ => ⟨S_, .i32⟩
  | .hbm, ⟨66, _⟩ => ⟨S102400x1, .i32⟩
  | .hbm, ⟨67, _⟩ => ⟨S102400x1, .i1⟩
  | .hbm, ⟨68, _⟩ => ⟨S1x1, .i32⟩
  | .hbm, ⟨69, _⟩ => ⟨S102400x1, .i32⟩
  | .hbm, ⟨70, _⟩ => ⟨S102400x1, .i1⟩
  | .hbm, ⟨71, _⟩ => ⟨S102400x1, .i1⟩
  | .hbm, ⟨72, _⟩ => ⟨S_, .i1⟩
  | .hbm, ⟨73, _⟩ => ⟨S102400, .i1⟩
  | .hbm, ⟨74, _⟩ => ⟨S102400x300, .f32⟩
  | .hbm, ⟨75, _⟩ => ⟨S102400x300, .i1⟩
  | .hbm, ⟨76, _⟩ => ⟨S_, .f32⟩
  | .hbm, ⟨77, _⟩ => ⟨S102400x300, .f32⟩
  | .hbm, ⟨78, _⟩ => ⟨S102400x300, .f32⟩
  | .hbm, ⟨79, _⟩ => ⟨S102400x600, .f32⟩
  | .hbm, ⟨80, _⟩ => ⟨S102400x300, .f32⟩
  | .hbm, ⟨81, _⟩ => ⟨S1x300, .f32⟩
  | .hbm, ⟨82, _⟩ => ⟨S102400x300, .f32⟩
  | .hbm, ⟨83, _⟩ => ⟨S102400x300, .f32⟩
  | .hbm, ⟨84, _⟩ => ⟨S102400x300, .f32⟩
  | .hbm, ⟨85, _⟩ => ⟨S102400x300, .f32⟩
  | .hbm, ⟨86, _⟩ => ⟨S_, .f32⟩
  | .hbm, ⟨87, _⟩ => ⟨S102400x300, .f32⟩
  | .hbm, ⟨88, _⟩ => ⟨S102400x300, .f32⟩
  | .hbm, ⟨89, _⟩ => ⟨S_, .f32⟩
  | .hbm, ⟨90, _⟩ => ⟨S102400x300, .f32⟩
  | .hbm, ⟨91, _⟩ => ⟨S102400x300, .f32⟩
  | .hbm, ⟨92, _⟩ => ⟨S102400x300, .f32⟩
  | .hbm, ⟨93, _⟩ => ⟨S102400x300, .f32⟩
  | _, _ => ⟨S102400x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_call1_call0_c : Ref sig .tc := ⟨.hbm, 34, rfl⟩
abbrev main_call1_call0_v0 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_call2_call0_c : Ref sig .tc := ⟨.hbm, 50, rfl⟩
abbrev main_call2_call0_v0 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_c_1 : Ref sig .tc := ⟨.hbm, 64, rfl⟩
abbrev main_call3_c_2 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_3 : Ref sig .tc := ⟨.hbm, 72, rfl⟩
abbrev main_call3_v12 : Ref sig .tc := ⟨.hbm, 73, rfl⟩
abbrev main_call3_v13 : Ref sig .tc := ⟨.hbm, 74, rfl⟩
abbrev main_call3_v14 : Ref sig .tc := ⟨.hbm, 75, rfl⟩
abbrev main_call3_cst : Ref sig .tc := ⟨.hbm, 76, rfl⟩
abbrev main_call3_v15 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_cst_9 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩

abbrev nD : Nat := 1
abbrev τ : Topo := Topo.v7x

variable {F : FTy → Type} [FloatOps F]
-- ==== Proof.Counts.lean ====
/-
  What the precondition says: every repeat count is 25. It is a conjunction over the molecules, printed as a reduction by
  `and` of the comparisons with 25.
-/
module

public import proofs.«01_k».proof.Proof.Gen.Pre_equal_molecules
public import Idealize.ShloMosaic.Lib.ReduceAll
public import Idealize.ShloMosaic.Lib.ValueIdx

@[expose] public section

set_option maxRecDepth 16384

namespace Cert.Proof.Counts

open Idealize.ShloMosaic
open Cert.Pre_equal_molecules Cert.Pre_equal_molecules.Gen

/-- The precondition's bit is one only where every count is 25. -/
theorem all_25 (x0 : FVec Ideal S102400x300 .f32) (x1 : FVec Ideal S53248x133 .f32) (x2 x3 : IVec S4096 32)
    (x4 : FVec Ideal S133x300 .f32) (x5 : FVec Ideal S300 .f32) (x6 : FVec Ideal S300x300 .f32) (x7 : FVec Ideal S300 .f32)
    (x8 : FVec Ideal S600x300 .f32) (x9 : FVec Ideal S300 .f32) (i : S_.Idx)
    (e : fn (F := Ideal) x0 x1 x2 x3 x4 x5 x6 x7 x8 x9 i = 1#1) (j : S4096.Idx) : x2 j = 25#32 := by
  haveI : Subsingleton S_.Idx := ⟨fun a b => funext fun d => d.elim0⟩
  exact IntOp.cmpi_eq.mp (Host.reduce_andi_all _ _ _ _ i e j)

end Cert.Proof.Counts
-- ==== Proof.Repeat.lean ====
/-
  The reference repeats row `j` of the `[4096, 300]` array of group means `atom_num[j]` times. It prints as integer
  arithmetic: the exclusive running sum of the repeat counts gives each molecule's first atom; a one is scattered at each
  of these; the running sum of the ones, less one, is the molecule of each atom; the rows are gathered at these indices,
  with a fill value where an index is out of range. This module reads that chain when every count is 25: atom `r` gets
  the row of molecule `r / 25`.
-/
module

public import proofs.«01_k».proof.Proof.Gen.ReferenceIdeal.Read
public import Idealize.ShloMosaic.Lib.Routing.Ops
public import Idealize.ShloMosaic.Lib.Routing.OpsOne
public import Idealize.ShloMosaic.Lib.Routing.OpsPair
public import Idealize.ShloMosaic.Lib.ReduceAll
public import Idealize.ShloMosaic.Lib.Affine

@[expose] public section

set_option maxRecDepth 16384

noncomputable section

namespace Cert.Proof.Repeat

open Idealize.ShloMosaic Idealize.ShloMosaic.ValueIdx Idealize.ShloMosaic.Routing
open Cert.ReferenceIdeal Cert.ReferenceIdeal.Gen Cert.ReferenceIdeal.Read

/-! ## Sums of naturals -/

/-- The counts shifted right by one, with a zero in front, sum to `25 j` over the first `j + 1` places. -/
theorem sum_starts (j : Nat) : ((List.range (j + 1)).map fun i => if i = 0 then 0 else 25).sum = 25 * j := by
  induction j with
  | zero => rfl
  | succ j ih =>
    rw [List.range_succ, List.map_append, List.sum_append, ih, List.map_singleton, List.sum_singleton, if_neg (Nat.succ_ne_zero j)]
    omega

/-- How many of the first `M` molecules start at atom `x`: one if `x` is a multiple of 25 and its quotient is below `M`. -/
theorem sum_hits (x M : Nat) :
    ((List.range M).map fun n => if 25 * n = x then 1 else 0).sum = if x % 25 = 0 ∧ x / 25 < M then 1 else 0 := by
  induction M with
  | zero => rw [if_neg (by omega)]; rfl
  | succ M ih =>
    rw [List.range_succ, List.map_append, List.sum_append, ih, List.map_singleton, List.sum_singleton]
    split_ifs <;> omega

/-- The number of molecules that start at or before atom `r` is `r / 25 + 1`. -/
theorem sum_marks (r : Nat) : ((List.range (r + 1)).map fun x => if x % 25 = 0 then 1 else 0).sum = r / 25 + 1 := by
  induction r with
  | zero => rfl
  | succ r ih =>
    rw [List.range_succ, List.map_append, List.sum_append, ih, List.map_singleton, List.sum_singleton]
    split_ifs <;> omega

/-! ## The scatter of the ones -/

/-- A scatter of `n` scalars into a vector of `N`, by one index word each: update `i` lands at `x` exactly when its word,
    read signed, is `x`. -/
theorem lands {N n : Nat} (d : ScatterDims (shape1 N) (shape2 n 1) (shape1 n)) (hw : d.insertedWindowDims = [0])
    (hs : d.scatterDimsToOperandDims = [0]) (hv : d.indexVectorDim = 1) (idx : IVec (shape2 n 1) 32) (i : Fin n) (x : Fin N) :
    d.resultIdx? (ix1 i) idx = some (ix1 x) ↔ (idx (ix2 i (0 : Fin 1))).toInt = (x.val : Int) := by
  have mem0 : (0 : Fin 1) ∈ d.scatterDimsToOperandDims := hs ▸ List.mem_singleton.2 rfl
  have window0 : d.window (ix1 i) 0 = 0 := by
    unfold ScatterDims.window
    refine dif_neg fun h => absurd (show (0 : Fin 1) ∈ d.insertedWindowDims by rw [hw]; exact List.mem_singleton.2 rfl) ?_
    exact of_decide_eq_true (List.mem_filter.1 h).2
  have at_i : d.siIdx (ix1 i) ⟨d.scatterDimsToOperandDims.idxOf 0, List.idxOf_lt_length_iff.2 mem0⟩ = ix2 i (0 : Fin 1) := by
    refine funext fun b => Fin.ext ?_
    match b with
    | ⟨0, _⟩ =>
      unfold ScatterDims.siIdx
      rw [dif_neg (by rw [hv]; exact Nat.zero_ne_one)]
      unfold ScatterDims.siCoord
      rw [Fin.val_cast]
      have all : ∀ a : Fin 1, (ix1 i a).val = i.val := fun a => by rw [Subsingleton.elim a 0]
      exact all _
    | ⟨1, _⟩ =>
      unfold ScatterDims.siIdx
      rw [dif_pos (by rw [hv])]
      show List.idxOf (0 : Fin 1) d.scatterDimsToOperandDims = 0
      rw [hs]
      rfl
  have start0 : d.start (ix1 i) idx 0 = (idx (ix2 i (0 : Fin 1))).toInt := by
    unfold ScatterDims.start
    rw [dif_pos mem0, at_i]
  rw [resultIdx?_ix1, start0, window0]
  omega

/-- Ones added into zeros at the words `g 0, …, g (n - 1)`, each below `2 ^ 31`: entry `x` counts the places `i` with `g i = x`. -/
theorem scatter_ones {N n : Nat} (d : ScatterDims (shape1 N) (shape2 n 1) (shape1 n)) (hw : d.insertedWindowDims = [0])
    (hs : d.scatterDimsToOperandDims = [0]) (hv : d.indexVectorDim = 1) (x0 : IVec (shape1 N) 32) (hx0 : ∀ i, x0 i = 0#32)
    (idx : IVec (shape2 n 1) 32) (upd : IVec (shape1 n) 32) (hu : ∀ i, upd i = 1#32) (g : Nat → Nat)
    (hg : ∀ i : Fin n, idx (ix2 i (0 : Fin 1)) = BitVec.ofNat 32 (g i.val)) (hb : ∀ i : Fin n, g i.val < 2 ^ 31) (x : Fin N) :
    Host.scatter d IntOp.addi x0 idx upd (ix1 x) = BitVec.ofNat 32 ((List.range n).map fun i => if g i = x.val then 1 else 0).sum := by
  rw [scatter_at]
  have step : ∀ (a : BitVec 32) (k : Fin (shape1 n).numel),
      (if d.resultIdx? ((shape1 n).rowMajor.symm k) idx = some (ix1 x) then IntOp.addi a (upd ((shape1 n).rowMajor.symm k)) else a)
        = IntOp.addi a (BitVec.ofNat 32 (if g k.val = x.val then 1 else 0)) := fun a k => by
    rw [symm1, hu]
    have e := lands d hw hs hv idx (k.cast (numel1 n)) x
    rw [hg, StableHlo.Predicate.toInt_ofNat_small _ (hb _)] at e
    change _ ↔ (g k.val : Int) = (x.val : Int) at e
    by_cases h : g k.val = x.val
    · rw [if_pos h, if_pos (e.2 (by omega))]
    · rw [if_neg h, if_neg fun q => h (by have := e.1 q; omega)]
      exact (BitVec.add_zero a).symm
  have fold : ∀ (l : List (Fin (shape1 n).numel)) (v : BitVec 32),
      l.foldl (fun a k => if d.resultIdx? ((shape1 n).rowMajor.symm k) idx = some (ix1 x) then IntOp.addi a (upd ((shape1 n).rowMajor.symm k)) else a) v
        = l.foldl (fun a k => IntOp.addi a (BitVec.ofNat 32 (if g k.val = x.val then 1 else 0))) v := fun l v =>
    congrArg (fun f => List.foldl f v l) (funext fun a => funext fun k => step a k)
  rw [fold]
  refine (foldl_addi_ofNat _ (fun k : Fin (shape1 n).numel => BitVec.ofNat 32 (if g k.val = x.val then 1 else 0))
    (fun k => if g k.val = x.val then 1 else 0) (fun _ _ => rfl) _ 0 (hx0 _)).trans ?_
  rw [Nat.zero_add, map_finRange_val _ (fun k => if g k = x.val then 1 else 0), numel1]

/-! ## The chain, one operation at a time -/

variable (cnt : (⟨S4096, .i32⟩ : BufTy).Contents (Elt Ideal)) (h25 : ∀ j, cnt j = 25#32)
include h25

/-- The counts rotated right by one place are all 25. -/
theorem rotated (j : Fin 4096) : val_main_v14 (F := Ideal) cnt (ix1 j) = 25#32 := by
  unfold val_main_v14
  have hj := j.isLt
  by_cases h : j.val = 0
  · rw [concatenate_pair_apply_left (t := S4096) (s₁ := S1) (s₂ := S4095) 0 _ _ _ (ix1 j) rfl (ix1 (0 : Fin 1)) (fun b => by
      match b with
      | ⟨0, _⟩ => exact h.symm)]
    rw [val_main_call0_v0_apply, h25]
  · rw [concatenate_pair_apply_right (t := S4096) (s₁ := S1) (s₂ := S4095) 0 _ _ _ (ix1 j) rfl rfl (ix1 (⟨j.val - 1, by omega⟩ : Fin 4095)) (fun b hb => by
      match b, hb with
      | ⟨0, _⟩, hb => exact (hb rfl).elim) (by show j.val - 1 + 1 = j.val; omega)]
    rw [val_main_call0_v1_apply, h25]

/-- With a zero set in front: 0, 25, 25, … -/
theorem shifted (j : Fin 4096) : val_main_v16 (F := Ideal) cnt (ix1 j) = BitVec.ofNat 32 (if j.val = 0 then 0 else 25) := by
  unfold val_main_v16
  refine (scatter_one scatter_S4096_S1_S__n_0_0_0 rfl rfl _ _ _ (0 : Fin 4096) (by decide) rfl j).trans ?_
  by_cases h : j.val = 0
  · rw [if_pos h, if_pos (Fin.ext h)]
    rfl
  · rw [if_neg h, if_neg fun e => h (congrArg Fin.val e), rotated cnt h25]

/-- Molecule `j` starts at atom `25 j`. -/
theorem starts (j : Fin 4096) : val_main_v17 (F := Ideal) cnt (ix1 j) = BitVec.ofNat 32 (25 * j.val) := by
  unfold val_main_v17
  refine (cumsum1 (by decide) _ (fun i => if i = 0 then 0 else 25) (fun i => shifted cnt h25 i) _ rfl _ _ j).trans ?_
  rw [sum_starts]

/-- The scatter's index words are the starts: none is negative, so none is wrapped. -/
theorem marks_at (j : Fin 4096) : val_main_v24 (F := Ideal) cnt (ix2 j (0 : Fin 1)) = BitVec.ofNat 32 (25 * j.val) := by
  have e : idx_main_v24 (ix2 j (0 : Fin 1)) = ix1 j := funext fun a => by
    match a with
    | ⟨0, _⟩ => rfl
  have hj := j.isLt
  rw [val_main_v24_apply, e, val_main_v23_apply, val_main_v20_apply, val_main_v19_apply, val_main_c_4_apply,
    wrap_of_lt _ _ (by rw [starts cnt h25, BitVec.toNat_ofNat]; exact lt_of_le_of_lt (Nat.mod_le _ _) (show 25 * j.val < 2 ^ 31 by omega)), starts cnt h25]

/-- A one stands at every multiple of 25, a zero elsewhere. -/
theorem marks (x : Fin 102400) : val_main_v26 (F := Ideal) cnt (ix1 x) = BitVec.ofNat 32 (if x.val % 25 = 0 then 1 else 0) := by
  unfold val_main_v26
  refine (scatter_ones scatter_S102400_S4096x1_S4096_n_0_0_1 rfl rfl rfl _ (fun i => ?_) _ _ (fun i => ?_) (fun n => 25 * n)
    (marks_at cnt h25) (fun i => by have := i.isLt; show 25 * i.val < 2 ^ 31; omega) x).trans ?_
  · rw [val_main_v18_apply, val_main_c_3_apply]
  · rw [val_main_v25_apply, val_main_c_6_apply]
  · have hx := x.isLt
    rw [sum_hits]
    by_cases h : x.val % 25 = 0
    · rw [if_pos h, if_pos ⟨h, by omega⟩]
    · rw [if_neg h, if_neg fun q => h q.1]

/-- Atom `r` belongs to molecule `r / 25`. -/
theorem molecule (r : Fin 102400) : val_main_v29 (F := Ideal) cnt (ix1 r) = BitVec.ofNat 32 (r.val / 25) := by
  have e : val_main_v27 (F := Ideal) cnt (ix1 r) = BitVec.ofNat 32 (r.val / 25 + 1) := by
    unfold val_main_v27
    refine (cumsum1 (by decide) _ (fun x => if x % 25 = 0 then 1 else 0) (fun x => marks cnt h25 x) _ rfl _ _ r).trans ?_
    rw [sum_marks]
  rw [val_main_v29_apply, val_main_v28_apply, val_main_c_7_apply, e, BitVec.ofNat_add]
  exact BitVec.add_sub_cancel _ _

/-- The gather's index words are the molecules: none is negative, so none is wrapped. -/
theorem gather_at (r : Fin 102400) : val_main_call3_v5 (F := Ideal) cnt (ix2 r (0 : Fin 1)) = BitVec.ofNat 32 (r.val / 25) := by
  have e : idx_main_call3_v5 (ix2 r (0 : Fin 1)) = ix1 r := funext fun a => by
    match a with
    | ⟨0, _⟩ => rfl
  have hr := r.isLt
  rw [val_main_call3_v5_apply, e, val_main_call3_v4_apply, val_main_call3_v1_apply, val_main_call3_v0_apply, val_main_call3_c_apply,
    wrap_of_lt _ _ (by rw [molecule cnt h25, BitVec.toNat_ofNat]; show r.val / 25 % 2 ^ 32 < 2 ^ 31; omega), molecule cnt h25]

/-- Every index word lies in `[0, 4095]`. -/
theorem in_range (k : S102400.Idx) : val_main_call3_v12 (F := Ideal) cnt k = 1#1 := by
  unfold val_main_call3_v12
  refine Host.reduce_andi_one _ _ _ _ _ rfl fun i => ?_
  obtain ⟨r, z, rfl⟩ : ∃ (r : Fin 102400) (z : Fin 1), i = ix2 r z := ⟨i 0, i 1, eq_ix2 i⟩
  obtain rfl : z = 0 := Subsingleton.elim _ _
  have hr := r.isLt
  have hs : (BitVec.ofNat 32 (r.val / 25)).toInt = ((r.val / 25 : Nat) : Int) := StableHlo.Predicate.toInt_ofNat_small _ (by omega)
  rw [val_main_call3_v11_apply, val_main_call3_v7_apply, val_main_call3_v10_apply, val_main_call3_v6_apply, val_main_call3_c_2_apply,
    val_main_call3_v9_apply, val_main_call3_v8_apply, val_main_call3_c_1_apply, gather_at cnt h25]
  rw [IntOp.cmpi_sge.2 (by rw [hs]; exact Int.natCast_nonneg _), IntOp.cmpi_sle.2 (by
    rw [hs]
    show ((r.val / 25 : Nat) : Int) ≤ 4095
    omega)]
  rfl

/-- The repeated array: atom `r`'s row is the row of molecule `r / 25`. -/
theorem repeated (x1 : (⟨S53248x133, .f32⟩ : BufTy).Contents (Elt Ideal)) (x4 : (⟨S133x300, .f32⟩ : BufTy).Contents (Elt Ideal))
    (x5 : (⟨S300, .f32⟩ : BufTy).Contents (Elt Ideal)) (x6 : (⟨S300x300, .f32⟩ : BufTy).Contents (Elt Ideal))
    (x7 : (⟨S300, .f32⟩ : BufTy).Contents (Elt Ideal)) (r : Fin 102400) (q : Fin 300) (j : Fin 4096) (hj : j.val = r.val / 25) :
    val_main_v30 (F := Ideal) x1 cnt x4 x5 x6 x7 (ix2 r q) = val_main_v13 (F := Ideal) x1 x4 x5 x6 x7 (ix2 j q) := by
  rw [val_main_v30_apply, val_main_call3_v14_apply, in_range cnt h25]
  show val_main_call3_v13 (F := Ideal) x1 cnt x4 x5 x6 x7 (ix2 r q) = _
  unfold val_main_call3_v13
  exact gather_row gather_S4096x300_S102400x1_S102400x300_1_0_n_n_0_1_1300 rfl rfl rfl rfl rfl _ _ r q j
    ((gather_at cnt h25 r).trans (congrArg (BitVec.ofNat 32) hj.symm)) (by decide)

end Cert.Proof.Repeat

end
-- ==== Proof.Blocks.lean ====
/-
  What one block of each launch computes, at an index.

  The first launch takes the feature rows of a block of molecules and the two layers' weights, and leaves two blocks: the
  molecules' group means, and these multiplied by the lower half of the gate's weights plus the gate's bias. The second
  takes a block of atoms and the rows of the two arrays that belong to the atoms' molecules, and leaves the gated sum.
  Arrays are functions of two coordinates into the extended reals.
-/
module

public import proofs.«01_k».proof.Proof.Gen.KernelIdeal.Frame
public import Idealize.ShloMosaic.Lib.ValueIdx
public import Idealize.ShloMosaic.Lib.Pointwise
public import Idealize.ShloMosaic.Lib.Routing.Ops
public import Idealize.ShloMosaic.Lib.Routing.OpsPair

@[expose] public section

set_option maxRecDepth 16384

noncomputable section

namespace Cert.Proof.Blocks

open Idealize.ShloMosaic
open Cert.KernelIdeal Cert.KernelIdeal.Gen

/-- An array of extended reals with two axes. -/
abbrev Arr (n m : ℕ) := (⟨2, ![n, m]⟩ : Shape).Idx → EReal

/-- The reciprocal of the thirteen groups of a molecule. -/
abbrev inv13 : EReal := ((13⁻¹ : ℝ) : EReal)

/-- Unit `k` of the hidden layer at feature row `r`. -/
def hidden {N : ℕ} (fg : Arr N 133) (w1 : Arr 133 300) (b1 : Arr 1 300) (r : Fin N) (k : Fin 300) : EReal :=
  max (∑ d, fg (ValueIdx.ix2 r d) * w1 (ValueIdx.ix2 d k) + b1 (ValueIdx.ix2 0 k)) 0

/-- One output of a dense layer of 300 inputs. -/
def dense (x : Fin 300 → EReal) (w : Arr 300 300) (b : Arr 1 300) (q : Fin 300) : EReal :=
  ∑ k, x k * w (ValueIdx.ix2 k q) + b (ValueIdx.ix2 0 q)

/-- The mean of the hidden layer over thirteen feature rows, put through the second layer: the kernel's group mean. -/
def groupMean {N : ℕ} (fg : Arr N 133) (w1 : Arr 133 300) (b1 : Arr 1 300) (w2 : Arr 300 300) (b2 : Arr 1 300)
    (row : Fin 13 → Fin N) (q : Fin 300) : EReal :=
  dense (fun k => (∑ j, hidden fg w1 b1 (row j) k) * inv13) w2 b2 q

/-- The gated sum at one atom: the atom's entry plus the group mean's times the logistic of the gate. -/
def gated (x : Fin 300 → EReal) (wt : Arr 300 300) (g p : EReal) (q : Fin 300) : EReal :=
  x q + Ideal.logistic (∑ k, x k * wt (ValueIdx.ix2 k q) + g) * p

/-- The named constant is the reciprocal of thirteen. -/
theorem inv_groups : (Named.named (F := Ideal) κ "inv_groups" 0x3D9D89D9#32 : Ideal .f32) = inv13 :=
  IdealRules.named_const.ideal_named_scalar _ _ _ _ rfl

/-- The first block of the first launch: molecule `n` of the block has the feature rows `13 n` to `13 n + 12`. -/
theorem pay_mean (x0 : Vec Ideal S6656x133 .f32) (x1 : Vec Ideal S133x300 .f32)
    (x2 : Vec Ideal S1x300 .f32) (x3 : Vec Ideal S300x300 .f32)
    (x4 : Vec Ideal S1x300 .f32) (n : Fin 512) (q : Fin 300) :
    k0_pay1 x0 x1 x2 x3 x4 (ValueIdx.ix2 n q)
      = groupMean x0 x1 x2 x3 x4 (fun j => ⟨n.val * 13 + j.val, by omega⟩) q := by
  unfold groupMean dense hidden
  simp only [← inv_groups, ← ix2_eq_valueIdx]
  pointwise [k0_pay1]

/-- The second block of the first launch: the first through the lower half of the gate's layer. -/
theorem pay_gate (x0 : Vec Ideal S6656x133 .f32) (x1 : Vec Ideal S133x300 .f32)
    (x2 : Vec Ideal S1x300 .f32) (x3 : Vec Ideal S300x300 .f32)
    (x4 : Vec Ideal S1x300 .f32) (x5 : Vec Ideal S300x300 .f32) (x6 : Vec Ideal S1x300 .f32) (n : Fin 512) (q : Fin 300) :
    k0_pay2 x0 x1 x2 x3 x4 x5 x6 (ValueIdx.ix2 n q)
      = dense (fun k => k0_pay1 x0 x1 x2 x3 x4 (ValueIdx.ix2 n k)) x5 x6 q := by
  unfold dense
  generalize h : k0_pay1 x0 x1 x2 x3 x4 = P
  simp only [← ix2_eq_valueIdx]
  unfold k0_pay2
  rw [h]
  pointwise []

/-- The block of the second launch: atom `n` of the block belongs to molecule `n / 25` of the block. -/
theorem pay_out (x0 : Vec Ideal S6400x300 .bf16) (x1 : Vec Ideal S300x300 .bf16) (x2 : Vec Ideal S256x300 .f32)
    (x3 : Vec Ideal S256x300 .f32) (n : Fin 6400) (q : Fin 300) :
    k1_pay1 x0 x1 x2 x3 (ValueIdx.ix2 n q)
      = gated (fun k => x0 (ValueIdx.ix2 n k)) x1 (x2 (ValueIdx.ix2 ⟨n.val / 25, by omega⟩ q))
          (x3 (ValueIdx.ix2 ⟨n.val / 25, by omega⟩ q)) q := by
  unfold gated
  simp only [← ix2_eq_valueIdx]
  pointwise [k1_pay1]

end Cert.Proof.Blocks
-- ==== Proof.StageA.lean ====
/-
  The arrays the first launch leaves.

  Its eight points take 512 molecules each: point `t` reads the feature rows `6656 t` to `6656 t + 6655` and the weights
  whole, and writes the rows `512 t` to `512 t + 511` of both results. So each result is one function of the arrays the
  launch finds: the group means, and these through the lower half of the gate's layer.
-/
module

public import proofs.«01_k».proof.Proof.Blocks
public import Idealize.ShloMosaic.Lib.Pipeline.Value

@[expose] public section

set_option maxRecDepth 16384

noncomputable section

namespace Cert.Proof.StageA

open Idealize.ShloMosaic Idealize.ShloMosaic.TcCoe
open Idealize.ShloMosaic.Pipeline (Dat)
open Cert.KernelIdeal Cert.KernelIdeal.Gen Cert.Proof.Blocks

/-- The offsets of a whole block are zero on both axes. -/
theorem hz : (![0, 0] : Fin 2 → Nat) = fun _ => 0 := funext fun a => by fin_cases a <;> rfl

variable (V : (c : Dev nD) → (b : Ref sig .tc) → Buf (Elt Ideal) ((c : Thread nD τ).loc b))

/-! ## The blocks the launch reads -/

/-- Point `t`'s feature rows are the rows `6656 t` onwards. -/
theorem blk_fg (c : Dev nD) (t : Fin cfg0.N) (ht : t.val < 8) (r : Fin 6656) (d : Fin 133) :
    (iblk0 V c 0 t : Arr 6656 133) (ValueIdx.ix2 r d) = (V c main_arg1 : Arr 53248 133) (ValueIdx.ix2 ⟨t.val * 6656 + r.val, by omega⟩ d) := by
  have e : ∀ t : Fin cfg0.N, win0_0.index t 0 = t.val ∧ win0_0.index t 1 = 0 := by decide +kernel
  refine congrArg (V c main_arg1 : Arr 53248 133) (funext fun a => Fin.ext ?_)
  match a with
  | ⟨0, _⟩ => show win0_0.index t 0 * 6656 + 1 * r.val = t.val * 6656 + r.val; rw [(e t).1]; omega
  | ⟨1, _⟩ => show win0_0.index t 1 * 133 + 1 * d.val = d.val; rw [(e t).2]; omega

/-- Every point reads the first layer's weights whole. -/
theorem blk_1 (c : Dev nD) (t : Fin cfg0.N) : (iblk0 V c 1 t : Arr 133 300) = V c main_arg4 := by
  have e : ∀ t : Fin cfg0.N, win0_1.index t 0 = 0 ∧ win0_1.index t 1 = 0 := by decide +kernel
  refine funext fun y => congrArg (V c main_arg4 : Arr 133 300) (funext fun a => Fin.ext ?_)
  match a with
  | ⟨0, _⟩ => show win0_1.index t 0 * 133 + 1 * (y 0).val = (y 0).val; rw [(e t).1]; omega
  | ⟨1, _⟩ => show win0_1.index t 1 * 300 + 1 * (y 1).val = (y 1).val; rw [(e t).2]; omega

/-- Every point reads the first layer's bias whole. -/
theorem blk_2 (c : Dev nD) (t : Fin cfg0.N) : (iblk0 V c 2 t : Arr 1 300) = V c main_v3 := by
  have e : ∀ t : Fin cfg0.N, win0_2.index t 0 = 0 ∧ win0_2.index t 1 = 0 := by decide +kernel
  refine funext fun y => congrArg (V c main_v3 : Arr 1 300) (funext fun a => Fin.ext ?_)
  match a with
  | ⟨0, _⟩ => show win0_2.index t 0 * 1 + 1 * (y 0).val = (y 0).val; rw [(e t).1]; omega
  | ⟨1, _⟩ => show win0_2.index t 1 * 300 + 1 * (y 1).val = (y 1).val; rw [(e t).2]; omega

/-- Every point reads the second layer's weights whole. -/
theorem blk_3 (c : Dev nD) (t : Fin cfg0.N) : (iblk0 V c 3 t : Arr 300 300) = V c main_arg6 := by
  have e : ∀ t : Fin cfg0.N, win0_3.index t 0 = 0 ∧ win0_3.index t 1 = 0 := by decide +kernel
  refine funext fun y => congrArg (V c main_arg6 : Arr 300 300) (funext fun a => Fin.ext ?_)
  match a with
  | ⟨0, _⟩ => show win0_3.index t 0 * 300 + 1 * (y 0).val = (y 0).val; rw [(e t).1]; omega
  | ⟨1, _⟩ => show win0_3.index t 1 * 300 + 1 * (y 1).val = (y 1).val; rw [(e t).2]; omega

/-- Every point reads the second layer's bias whole. -/
theorem blk_4 (c : Dev nD) (t : Fin cfg0.N) : (iblk0 V c 4 t : Arr 1 300) = V c main_v4 := by
  have e : ∀ t : Fin cfg0.N, win0_4.index t 0 = 0 ∧ win0_4.index t 1 = 0 := by decide +kernel
  refine funext fun y => congrArg (V c main_v4 : Arr 1 300) (funext fun a => Fin.ext ?_)
  match a with
  | ⟨0, _⟩ => show win0_4.index t 0 * 1 + 1 * (y 0).val = (y 0).val; rw [(e t).1]; omega
  | ⟨1, _⟩ => show win0_4.index t 1 * 300 + 1 * (y 1).val = (y 1).val; rw [(e t).2]; omega

/-- Every point reads the lower half of the gate's weights whole. -/
theorem blk_5 (c : Dev nD) (t : Fin cfg0.N) : (iblk0 V c 5 t : Arr 300 300) = V c main_v2 := by
  have e : ∀ t : Fin cfg0.N, win0_5.index t 0 = 0 ∧ win0_5.index t 1 = 0 := by decide +kernel
  refine funext fun y => congrArg (V c main_v2 : Arr 300 300) (funext fun a => Fin.ext ?_)
  match a with
  | ⟨0, _⟩ => show win0_5.index t 0 * 300 + 1 * (y 0).val = (y 0).val; rw [(e t).1]; omega
  | ⟨1, _⟩ => show win0_5.index t 1 * 300 + 1 * (y 1).val = (y 1).val; rw [(e t).2]; omega

/-- Every point reads the gate's bias whole. -/
theorem blk_6 (c : Dev nD) (t : Fin cfg0.N) : (iblk0 V c 6 t : Arr 1 300) = V c main_v5 := by
  have e : ∀ t : Fin cfg0.N, win0_6.index t 0 = 0 ∧ win0_6.index t 1 = 0 := by decide +kernel
  refine funext fun y => congrArg (V c main_v5 : Arr 1 300) (funext fun a => Fin.ext ?_)
  match a with
  | ⟨0, _⟩ => show win0_6.index t 0 * 1 + 1 * (y 0).val = (y 0).val; rw [(e t).1]; omega
  | ⟨1, _⟩ => show win0_6.index t 1 * 300 + 1 * (y 1).val = (y 1).val; rw [(e t).2]; omega

/-! ## The results as whole arrays -/

/-- The group means of the molecules. -/
def means (c : Dev nD) : Arr 4096 300 := fun i =>
  groupMean (N := 53248) (V c main_arg1) (V c main_arg4) (V c main_v3) (V c main_arg6) (V c main_v4)
    (fun j => ⟨(i 0).val * 13 + j.val, by have := (i 0).isLt; change (i 0).val < 4096 at this; omega⟩) (i 1)

/-- The group means through the lower half of the gate's layer. -/
def gates (c : Dev nD) : Arr 4096 300 := fun i =>
  dense (fun k => means V c (ValueIdx.ix2 (i 0) k)) (V c main_v2) (V c main_v5) (i 1)

/-- A block's group mean is the array's, at the molecule's own row. -/
theorem mean_block (c : Dev nD) (t : Fin cfg0.N) (ht : t.val < 8) (n : Fin 512) (q : Fin 300) :
    k0_pay1 (iblk0 V c 0 t) (iblk0 V c 1 t) (iblk0 V c 2 t) (iblk0 V c 3 t) (iblk0 V c 4 t) (ValueIdx.ix2 n q)
      = means V c (ValueIdx.ix2 ⟨t.val * 512 + n.val, by omega⟩ q) := by
  refine (pay_mean _ _ _ _ _ n q).trans ?_
  unfold means groupMean Blocks.hidden
  refine congrArg₂ (· + ·) (Finset.sum_congr rfl fun k _ => ?_) (congrFun (blk_4 V c t) _)
  refine congrArg₂ (· * ·) (congrArg (· * inv13) (Finset.sum_congr rfl fun j _ => ?_)) (congrFun (blk_3 V c t) _)
  refine congrArg (max · 0) (congrArg₂ (· + ·) (Finset.sum_congr rfl fun d _ => ?_) (congrFun (blk_2 V c t) _))
  refine congrArg₂ (· * ·) ((blk_fg V c t ht _ d).trans ?_) (congrFun (blk_1 V c t) _)
  refine congrArg (fun r => (V c main_arg1 : Arr 53248 133) (ValueIdx.ix2 r d)) (Fin.ext ?_)
  show t.val * 6656 + (n.val * 13 + j.val) = (t.val * 512 + n.val) * 13 + j.val
  omega

/-- Where point `t`'s block of result 7 starts: row `512 t`, column 0. -/
theorem index_7 (t : Fin cfg0.N) : win0_7.index t 0 = t.val ∧ win0_7.index t 1 = 0 :=
  (by decide +kernel : ∀ t : Fin cfg0.N, win0_7.index t 0 = t.val ∧ win0_7.index t 1 = 0) t

/-- An array read through point `t`'s block of result 7. -/
theorem read_7 (t : Fin cfg0.N) (ht : t.val < 8) (c : Dev nD) (G : Arr 4096 300) (n : Fin 512) (q : Fin 300) :
    ((win0_7.blk t).view.read (Elt Ideal) (show Buf (Elt Ideal) ((c : Thread nD τ).loc main_v7_0) from G) : Arr 512 300) (ValueIdx.ix2 n q)
      = G (ValueIdx.ix2 ⟨t.val * 512 + n.val, by omega⟩ q) := by
  refine congrArg G (funext fun a => Fin.ext ?_)
  match a with
  | ⟨0, _⟩ => show win0_7.index t 0 * 512 + 1 * n.val = t.val * 512 + n.val; rw [(index_7 t).1]; omega
  | ⟨1, _⟩ => show win0_7.index t 1 * 300 + 1 * q.val = q.val; rw [(index_7 t).2]; omega

/-- What the body leaves at point `t` is the block's value. -/
theorem after_7 (c : Dev nD) (t : Fin cfg0.N) :
    (dat0 V c).after 7 t = k0_pay1 (iblk0 V c 0 t) (iblk0 V c 1 t) (iblk0 V c 2 t) (iblk0 V c 3 t) (iblk0 V c 4 t) := by
  rw [after0_7]
  unfold out0_7
  rw [View.canon_unit_zero hz, View.ld_unit_zero hz, View.ld_unit_zero hz, View.ld_unit_zero hz, View.ld_unit_zero hz, View.ld_unit_zero hz]

/-- What point `t` writes of the group means is the block of the whole array. -/
theorem flushed_7 (c : Dev nD) (t : Fin cfg0.N) :
    (dat0 V c).flushed 7 t = (win0_7.blk t).view.read (Elt Ideal) (show Buf (Elt Ideal) ((c : Thread nD τ).loc main_v7_0) from means V c) := by
  have ht : t.val < 8 := lt_of_lt_of_eq t.isLt N_0
  show (cfg0.win 7).cut (grid0.coords t) ((dat0 V c).after 7 t) = _
  rw [after_7]
  refine funext fun (y : S512x300.Idx) => ?_
  obtain ⟨n, q, rfl⟩ : ∃ (n : Fin 512) (q : Fin 300), y = ValueIdx.ix2 n q := ⟨y 0, y 1, ValueIdx.eq_ix2 y⟩
  refine Eq.trans ?_ (read_7 t ht c (means V c) n q).symm
  show k0_pay1 (iblk0 V c 0 t) (iblk0 V c 1 t) (iblk0 V c 2 t) (iblk0 V c 3 t) (iblk0 V c 4 t) (ValueIdx.ix2 n q) = _
  exact (mean_block V c t ht n q)

/-- An index is in point `t`'s block of result 7 if its row is one of the block's 512. -/
theorem mem_blk_7 (t : Fin cfg0.N) (i : S4096x300.Idx) (h : t.val * 512 ≤ (i 0).val ∧ (i 0).val < t.val * 512 + 512) :
    i ∈ ((cfg0.win 7).blk t).view.set := by
  show i ∈ ((View.whole main_v7_0).slice (win0_7.rect t)).set
  rw [View.set_slice_whole, Rect.mem_set_unit]
  have h1 : (i 1).val < 300 := (i 1).isLt
  intro a
  match a with
  | ⟨0, _⟩ =>
    show win0_7.index t 0 * 512 ≤ (i 0).val ∧ (i 0).val < win0_7.index t 0 * 512 + 512
    rw [(index_7 t).1]; exact h
  | ⟨1, _⟩ =>
    show win0_7.index t 1 * 300 ≤ (i 1).val ∧ (i 1).val < win0_7.index t 1 * 300 + 300
    rw [(index_7 t).2]; omega

/-- The blocks of the group means tile the array: row `r` is in block `r / 512`. -/
theorem cover_7 (i : S4096x300.Idx) :
    ∃ t : Fin cfg0.N, (cfg0.win 7).flush t = true ∧ i ∈ ((cfg0.win 7).blk t).view.set := by
  have h0 : (i 0).val < 4096 := (i 0).isLt
  have hN : cfg0.N = 8 := N_0
  exact ⟨⟨(i 0).val / 512, by omega⟩, flush0_7 _, mem_blk_7 _ i (by dsimp only; omega)⟩

/-- So the launch leaves the group means. -/
theorem final_7 (c : Dev nD) : (dat0 V c).arrAt 7 cfg0.N = (show Buf (Elt Ideal) ((c : Thread nD τ).loc main_v7_0) from means V c) :=
  (dat0 V c).arrAt_eq_of_cover 7 _ (fun t _ => flushed_7 V c t) cover_7

/-- Where point `t`'s block of result 8 starts: row `512 t`, column 0. -/
theorem index_8 (t : Fin cfg0.N) : win0_8.index t 0 = t.val ∧ win0_8.index t 1 = 0 :=
  (by decide +kernel : ∀ t : Fin cfg0.N, win0_8.index t 0 = t.val ∧ win0_8.index t 1 = 0) t

/-- An array read through point `t`'s block of result 8. -/
theorem read_8 (t : Fin cfg0.N) (ht : t.val < 8) (c : Dev nD) (G : Arr 4096 300) (n : Fin 512) (q : Fin 300) :
    ((win0_8.blk t).view.read (Elt Ideal) (show Buf (Elt Ideal) ((c : Thread nD τ).loc main_v7_1) from G) : Arr 512 300) (ValueIdx.ix2 n q)
      = G (ValueIdx.ix2 ⟨t.val * 512 + n.val, by omega⟩ q) := by
  refine congrArg G (funext fun a => Fin.ext ?_)
  match a with
  | ⟨0, _⟩ => show win0_8.index t 0 * 512 + 1 * n.val = t.val * 512 + n.val; rw [(index_8 t).1]; omega
  | ⟨1, _⟩ => show win0_8.index t 1 * 300 + 1 * q.val = q.val; rw [(index_8 t).2]; omega

/-- What the body leaves at point `t` is the block's value. -/
theorem after_8 (c : Dev nD) (t : Fin cfg0.N) :
    (dat0 V c).after 8 t = k0_pay2 (iblk0 V c 0 t) (iblk0 V c 1 t) (iblk0 V c 2 t) (iblk0 V c 3 t) (iblk0 V c 4 t) (iblk0 V c 5 t) (iblk0 V c 6 t) := by
  rw [after0_8]
  unfold out0_8
  rw [View.canon_unit_zero hz, View.ld_unit_zero hz, View.ld_unit_zero hz, View.ld_unit_zero hz, View.ld_unit_zero hz, View.ld_unit_zero hz, View.ld_unit_zero hz, View.ld_unit_zero hz]

/-- What point `t` writes of their gate terms is the block of the whole array. -/
theorem flushed_8 (c : Dev nD) (t : Fin cfg0.N) :
    (dat0 V c).flushed 8 t = (win0_8.blk t).view.read (Elt Ideal) (show Buf (Elt Ideal) ((c : Thread nD τ).loc main_v7_1) from gates V c) := by
  have ht : t.val < 8 := lt_of_lt_of_eq t.isLt N_0
  show (cfg0.win 8).cut (grid0.coords t) ((dat0 V c).after 8 t) = _
  rw [after_8]
  refine funext fun (y : S512x300.Idx) => ?_
  obtain ⟨n, q, rfl⟩ : ∃ (n : Fin 512) (q : Fin 300), y = ValueIdx.ix2 n q := ⟨y 0, y 1, ValueIdx.eq_ix2 y⟩
  refine Eq.trans ?_ (read_8 t ht c (gates V c) n q).symm
  show k0_pay2 (iblk0 V c 0 t) (iblk0 V c 1 t) (iblk0 V c 2 t) (iblk0 V c 3 t) (iblk0 V c 4 t) (iblk0 V c 5 t) (iblk0 V c 6 t) (ValueIdx.ix2 n q) = _
  refine (pay_gate _ _ _ _ _ _ _ n q).trans ?_
  unfold gates dense
  exact congrArg₂ (· + ·) (Finset.sum_congr rfl fun k _ => congrArg₂ (· * ·) (mean_block V c t ht n k) (congrFun (blk_5 V c t) _))
    (congrFun (blk_6 V c t) _)

/-- An index is in point `t`'s block of result 8 if its row is one of the block's 512. -/
theorem mem_blk_8 (t : Fin cfg0.N) (i : S4096x300.Idx) (h : t.val * 512 ≤ (i 0).val ∧ (i 0).val < t.val * 512 + 512) :
    i ∈ ((cfg0.win 8).blk t).view.set := by
  show i ∈ ((View.whole main_v7_1).slice (win0_8.rect t)).set
  rw [View.set_slice_whole, Rect.mem_set_unit]
  have h1 : (i 1).val < 300 := (i 1).isLt
  intro a
  match a with
  | ⟨0, _⟩ =>
    show win0_8.index t 0 * 512 ≤ (i 0).val ∧ (i 0).val < win0_8.index t 0 * 512 + 512
    rw [(index_8 t).1]; exact h
  | ⟨1, _⟩ =>
    show win0_8.index t 1 * 300 ≤ (i 1).val ∧ (i 1).val < win0_8.index t 1 * 300 + 300
    rw [(index_8 t).2]; omega

/-- The blocks of their gate terms tile the array: row `r` is in block `r / 512`. -/
theorem cover_8 (i : S4096x300.Idx) :
    ∃ t : Fin cfg0.N, (cfg0.win 8).flush t = true ∧ i ∈ ((cfg0.win 8).blk t).view.set := by
  have h0 : (i 0).val < 4096 := (i 0).isLt
  have hN : cfg0.N = 8 := N_0
  exact ⟨⟨(i 0).val / 512, by omega⟩, flush0_8 _, mem_blk_8 _ i (by dsimp only; omega)⟩

/-- So the launch leaves their gate terms. -/
theorem final_8 (c : Dev nD) : (dat0 V c).arrAt 8 cfg0.N = (show Buf (Elt Ideal) ((c : Thread nD τ).loc main_v7_1) from gates V c) :=
  (dat0 V c).arrAt_eq_of_cover 8 _ (fun t _ => flushed_8 V c t) cover_8

end Cert.Proof.StageA
-- ==== Proof.StageB.lean ====
/-
  The array the second launch leaves.

  Its sixteen points take 6400 atoms each, which are the atoms of 256 molecules: point `t` reads the atoms `6400 t` onwards,
  the rows `256 t` onwards of the group means and of their gate terms, and the upper half of the gate's weights whole, and
  writes the rows `6400 t` to `6400 t + 6399` of the result. Row `r` of the result is that of the molecule `r / 25`.
-/
module

public import proofs.«01_k».proof.Proof.Blocks
public import Idealize.ShloMosaic.Lib.Pipeline.Value

@[expose] public section

set_option maxRecDepth 16384

noncomputable section

namespace Cert.Proof.StageB

open Idealize.ShloMosaic Idealize.ShloMosaic.TcCoe
open Idealize.ShloMosaic.Pipeline (Dat)
open Cert.KernelIdeal Cert.KernelIdeal.Gen Cert.Proof.Blocks

/-- The offsets of a whole block are zero on both axes. -/
theorem hz : (![0, 0] : Fin 2 → Nat) = fun _ => 0 := funext fun a => by fin_cases a <;> rfl

variable (V : (c : Dev nD) → (b : Ref sig .tc) → Buf (Elt Ideal) ((c : Thread nD τ).loc b))

/-! ## The blocks the launch reads -/

/-- Point `t`'s atoms are the rows `6400 t` onwards. -/
theorem blk_0 (c : Dev nD) (t : Fin cfg1.N) (ht : t.val < 16) (r : Fin 6400) (q : Fin 300) :
    (iblk1 V c 0 t : Arr 6400 300) (ValueIdx.ix2 r q) = (V c main_v6 : Arr 102400 300) (ValueIdx.ix2 ⟨t.val * 6400 + r.val, by omega⟩ q) := by
  have e : ∀ t : Fin cfg1.N, win1_0.index t 0 = t.val ∧ win1_0.index t 1 = 0 := by decide +kernel
  refine congrArg (V c main_v6 : Arr 102400 300) (funext fun a => Fin.ext ?_)
  match a with
  | ⟨0, _⟩ => show win1_0.index t 0 * 6400 + 1 * r.val = t.val * 6400 + r.val; rw [(e t).1]; omega
  | ⟨1, _⟩ => show win1_0.index t 1 * 300 + 1 * q.val = q.val; rw [(e t).2]; omega

/-- Point `t`'s group means are the rows `256 t` onwards. -/
theorem blk_1 (c : Dev nD) (t : Fin cfg1.N) (ht : t.val < 16) (r : Fin 256) (q : Fin 300) :
    (iblk1 V c 1 t : Arr 256 300) (ValueIdx.ix2 r q) = (V c main_v7_0 : Arr 4096 300) (ValueIdx.ix2 ⟨t.val * 256 + r.val, by omega⟩ q) := by
  have e : ∀ t : Fin cfg1.N, win1_1.index t 0 = t.val ∧ win1_1.index t 1 = 0 := by decide +kernel
  refine congrArg (V c main_v7_0 : Arr 4096 300) (funext fun a => Fin.ext ?_)
  match a with
  | ⟨0, _⟩ => show win1_1.index t 0 * 256 + 1 * r.val = t.val * 256 + r.val; rw [(e t).1]; omega
  | ⟨1, _⟩ => show win1_1.index t 1 * 300 + 1 * q.val = q.val; rw [(e t).2]; omega

/-- Point `t`'s gate terms are the rows `256 t` onwards. -/
theorem blk_2 (c : Dev nD) (t : Fin cfg1.N) (ht : t.val < 16) (r : Fin 256) (q : Fin 300) :
    (iblk1 V c 2 t : Arr 256 300) (ValueIdx.ix2 r q) = (V c main_v7_1 : Arr 4096 300) (ValueIdx.ix2 ⟨t.val * 256 + r.val, by omega⟩ q) := by
  have e : ∀ t : Fin cfg1.N, win1_2.index t 0 = t.val ∧ win1_2.index t 1 = 0 := by decide +kernel
  refine congrArg (V c main_v7_1 : Arr 4096 300) (funext fun a => Fin.ext ?_)
  match a with
  | ⟨0, _⟩ => show win1_2.index t 0 * 256 + 1 * r.val = t.val * 256 + r.val; rw [(e t).1]; omega
  | ⟨1, _⟩ => show win1_2.index t 1 * 300 + 1 * q.val = q.val; rw [(e t).2]; omega

/-- Every point reads the upper half of the gate's weights whole. -/
theorem blk_3 (c : Dev nD) (t : Fin cfg1.N) : (iblk1 V c 3 t : Arr 300 300) = V c main_v1 := by
  have e : ∀ t : Fin cfg1.N, win1_3.index t 0 = 0 ∧ win1_3.index t 1 = 0 := by decide +kernel
  refine funext fun y => congrArg (V c main_v1 : Arr 300 300) (funext fun a => Fin.ext ?_)
  match a with
  | ⟨0, _⟩ => show win1_3.index t 0 * 300 + 1 * (y 0).val = (y 0).val; rw [(e t).1]; omega
  | ⟨1, _⟩ => show win1_3.index t 1 * 300 + 1 * (y 1).val = (y 1).val; rw [(e t).2]; omega

/-! ## The result as a whole array -/

/-- The gated sum over the atoms. -/
def result (c : Dev nD) : Arr 102400 300 := fun i =>
  gated (fun k => (V c main_v6 : Arr 102400 300) (ValueIdx.ix2 (i 0) k)) (V c main_v1)
    ((V c main_v7_1 : Arr 4096 300) (ValueIdx.ix2 ⟨(i 0).val / 25, by have := (i 0).isLt; change (i 0).val < 102400 at this; omega⟩ (i 1)))
    ((V c main_v7_0 : Arr 4096 300) (ValueIdx.ix2 ⟨(i 0).val / 25, by have := (i 0).isLt; change (i 0).val < 102400 at this; omega⟩ (i 1)))
    (i 1)

/-- Where point `t`'s block of the result starts: row `6400 t`, column 0. -/
theorem index_4 (t : Fin cfg1.N) : win1_4.index t 0 = t.val ∧ win1_4.index t 1 = 0 :=
  (by decide +kernel : ∀ t : Fin cfg1.N, win1_4.index t 0 = t.val ∧ win1_4.index t 1 = 0) t

/-- An array read through point `t`'s block of the result. -/
theorem read_4 (t : Fin cfg1.N) (ht : t.val < 16) (c : Dev nD) (G : Arr 102400 300) (n : Fin 6400) (q : Fin 300) :
    ((win1_4.blk t).view.read (Elt Ideal) (show Buf (Elt Ideal) ((c : Thread nD τ).loc main_v8) from G) : Arr 6400 300) (ValueIdx.ix2 n q)
      = G (ValueIdx.ix2 ⟨t.val * 6400 + n.val, by omega⟩ q) := by
  refine congrArg G (funext fun a => Fin.ext ?_)
  match a with
  | ⟨0, _⟩ => show win1_4.index t 0 * 6400 + 1 * n.val = t.val * 6400 + n.val; rw [(index_4 t).1]; omega
  | ⟨1, _⟩ => show win1_4.index t 1 * 300 + 1 * q.val = q.val; rw [(index_4 t).2]; omega

/-- What the body leaves at point `t` is the block's value. -/
theorem after_4 (c : Dev nD) (t : Fin cfg1.N) :
    (dat1 V c).after 4 t = k1_pay1 (iblk1 V c 0 t) (iblk1 V c 3 t) (iblk1 V c 2 t) (iblk1 V c 1 t) := by
  rw [after1_4]
  unfold out1_4
  rw [View.canon_unit_zero hz, View.ld_unit_zero hz, View.ld_unit_zero hz, View.ld_unit_zero hz, View.ld_unit_zero hz]

/-- What point `t` writes is the block of the whole array: atom `n` of the block is atom `6400 t + n`, and its molecule in
    the block, `n / 25`, is the molecule `256 t + n / 25`. -/
theorem flushed_4 (c : Dev nD) (t : Fin cfg1.N) :
    (dat1 V c).flushed 4 t = (win1_4.blk t).view.read (Elt Ideal) (show Buf (Elt Ideal) ((c : Thread nD τ).loc main_v8) from result V c) := by
  have ht : t.val < 16 := lt_of_lt_of_eq t.isLt N_1
  show (cfg1.win 4).cut (grid1.coords t) ((dat1 V c).after 4 t) = _
  rw [after_4]
  refine funext fun (y : S6400x300.Idx) => ?_
  obtain ⟨n, q, rfl⟩ : ∃ (n : Fin 6400) (q : Fin 300), y = ValueIdx.ix2 n q := ⟨y 0, y 1, ValueIdx.eq_ix2 y⟩
  refine Eq.trans ?_ (read_4 t ht c (result V c) n q).symm
  show k1_pay1 (iblk1 V c 0 t) (iblk1 V c 3 t) (iblk1 V c 2 t) (iblk1 V c 1 t) (ValueIdx.ix2 n q) = _
  refine (pay_out _ _ _ _ n q).trans ?_
  have hrow : t.val * 256 + n.val / 25 = (t.val * 6400 + n.val) / 25 := by omega
  unfold result gated
  refine congrArg₂ (· + ·) (blk_0 V c t ht n q) (congrArg₂ (fun a b => Ideal.logistic a * b)
    (congrArg₂ (· + ·) (Finset.sum_congr rfl fun k _ => congrArg₂ (· * ·) (blk_0 V c t ht n k) (congrFun (blk_3 V c t) _))
      ((blk_2 V c t ht _ q).trans ?_)) ((blk_1 V c t ht _ q).trans ?_))
  · exact congrArg (fun r => (V c main_v7_1 : Arr 4096 300) (ValueIdx.ix2 r q)) (Fin.ext hrow)
  · exact congrArg (fun r => (V c main_v7_0 : Arr 4096 300) (ValueIdx.ix2 r q)) (Fin.ext hrow)

/-- An index is in point `t`'s block of the result if its row is one of the block's 6400. -/
theorem mem_blk_4 (t : Fin cfg1.N) (i : S102400x300.Idx) (h : t.val * 6400 ≤ (i 0).val ∧ (i 0).val < t.val * 6400 + 6400) :
    i ∈ ((cfg1.win 4).blk t).view.set := by
  show i ∈ ((View.whole main_v8).slice (win1_4.rect t)).set
  rw [View.set_slice_whole, Rect.mem_set_unit]
  have h1 : (i 1).val < 300 := (i 1).isLt
  intro a
  match a with
  | ⟨0, _⟩ =>
    show win1_4.index t 0 * 6400 ≤ (i 0).val ∧ (i 0).val < win1_4.index t 0 * 6400 + 6400
    rw [(index_4 t).1]; exact h
  | ⟨1, _⟩ =>
    show win1_4.index t 1 * 300 ≤ (i 1).val ∧ (i 1).val < win1_4.index t 1 * 300 + 300
    rw [(index_4 t).2]; omega

/-- The blocks tile the result: row `r` is in block `r / 6400`. -/
theorem cover_4 (i : S102400x300.Idx) :
    ∃ t : Fin cfg1.N, (cfg1.win 4).flush t = true ∧ i ∈ ((cfg1.win 4).blk t).view.set := by
  have h0 : (i 0).val < 102400 := (i 0).isLt
  have hN : cfg1.N = 16 := N_1
  exact ⟨⟨(i 0).val / 6400, by omega⟩, flush1_4 _, mem_blk_4 _ i (by dsimp only; omega)⟩

/-- So the launch leaves the gated sum. -/
theorem final_4 (c : Dev nD) : (dat1 V c).arrAt 4 cfg1.N = (show Buf (Elt Ideal) ((c : Thread nD τ).loc main_v8) from result V c) :=
  (dat1 V c).arrAt_eq_of_cover 4 _ (fun t _ => flushed_4 V c t) cover_4

end Cert.Proof.StageB
-- ==== Proof.KernelRun.lean ====
/-
  The kernel's run, and what its result holds in terms of its arguments.

  The run is the launch of the two regions after the host's preparations: slices of the gate's weights, the biases as rows,
  and two casts. At its end every array is at the last boundary's contents. The preparations are read at an index here, the
  two launches' results in the modules of the two stages, and together they give the result as one function of the
  arguments.
-/
module

public import proofs.«01_k».proof.Proof.StageA
public import proofs.«01_k».proof.Proof.StageB
public import Idealize.ShloMosaic.Lib.StableHlo.Run

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.Blocks

section Run

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each array at the contents of the last boundary. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- So the result array ends at what the second launch leaves, and every argument as it was. -/
theorem run_read : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨(h c _ (mem_uc main_v8 (by decide))).trans (W3_arr m ρ c 4),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩) (run m ρ)

end Run

/-! ## The host's preparations -/

/-- A vector of 300 as an array of one row. -/
def rowOf (b : S300.Idx → EReal) : Arr 1 300 := fun i => b (ValueIdx.ix1 (i 1))

/-- Rows 0 to 299 of an array of 600. -/
def topOf (w : Arr 600 300) : Arr 300 300 := fun i =>
  w (ValueIdx.ix2 ⟨(i 0).val, by have := (i 0).isLt; change (i 0).val < 300 at this; omega⟩ (i 1))

/-- Rows 300 to 599 of an array of 600. -/
def botOf (w : Arr 600 300) : Arr 300 300 := fun i =>
  w (ValueIdx.ix2 ⟨300 + (i 0).val, by have := (i 0).isLt; change (i 0).val < 300 at this; omega⟩ (i 1))

variable (m : (ℓ : Loc nD τ sig) → Buf (Elt Ideal) ℓ) (ρ : Dev nD → PrngReg)

/-- Before the first launch the array of the upper weights holds the upper half of the gate's weights: the cast changes nothing. -/
theorem entry_top (c : Dev nD) : (V1 m ρ c main_v1 : Arr 300 300) = topOf (m ((c : Thread nD τ).loc main_arg8)) := by
  have e : V1 m ρ c main_v1 = (truncf .bf16 (extractStridedSlice S300x300 ![0, 0] (m ((c : Thread nD τ).loc main_arg8)) slices_S600x300_S300x300_0_0) bitsLt_bf16_f32 : FVec Ideal S300x300 .bf16) := by
    show StableHlo.after hostOps0 (W0 m ρ c) (Proc.devRef .tc main_v1) = _
    after_results
  rw [e]
  refine funext fun (i : S300x300.Idx) => ?_
  obtain ⟨k, q, rfl⟩ : ∃ (k : Fin 300) (q : Fin 300), i = ValueIdx.ix2 k q := ⟨i 0, i 1, ValueIdx.eq_ix2 i⟩
  show _ = (m ((c : Thread nD τ).loc main_arg8) : Arr 600 300) (ValueIdx.ix2 ⟨k.val, _⟩ q)
  simp only [← ix2_eq_valueIdx]
  pointwise []

/-- The array of the lower weights holds the lower half of the gate's weights. -/
theorem entry_bot (c : Dev nD) : (V1 m ρ c main_v2 : Arr 300 300) = botOf (m ((c : Thread nD τ).loc main_arg8)) := by
  have e : V1 m ρ c main_v2 = (extractStridedSlice S300x300 ![300, 0] (m ((c : Thread nD τ).loc main_arg8)) slices_S600x300_S300x300_300_0 : FVec Ideal S300x300 .f32) := by
    show StableHlo.after hostOps0 (W0 m ρ c) (Proc.devRef .tc main_v2) = _
    after_results
  rw [e]
  refine funext fun (i : S300x300.Idx) => ?_
  obtain ⟨k, q, rfl⟩ : ∃ (k : Fin 300) (q : Fin 300), i = ValueIdx.ix2 k q := ⟨i 0, i 1, ValueIdx.eq_ix2 i⟩
  show _ = (m ((c : Thread nD τ).loc main_arg8) : Arr 600 300) (ValueIdx.ix2 ⟨300 + k.val, _⟩ q)
  simp only [← ix2_eq_valueIdx]
  pointwise []

/-- The array of the cast atoms holds the atoms: the cast changes nothing. -/
theorem entry_atoms (c : Dev nD) : (V1 m ρ c main_v6 : Arr 102400 300) = m ((c : Thread nD τ).loc main_arg0) := by
  have e : V1 m ρ c main_v6 = (truncf .bf16 (m ((c : Thread nD τ).loc main_arg0)) bitsLt_bf16_f32 : FVec Ideal S102400x300 .bf16) := by
    show StableHlo.after hostOps0 (W0 m ρ c) (Proc.devRef .tc main_v6) = _
    after_results
  rw [e]; rfl

/-- A vector of 300 cast to a row is that row. -/
theorem cast_row (b : FVec Ideal S300 .f32) : (shapeCast S1x300 b shapeCasts_S300_S1x300 : FVec Ideal S1x300 .f32) = rowOf b := by
  refine funext fun (i : S1x300.Idx) => ?_
  obtain ⟨k, q, rfl⟩ : ∃ (k : Fin 1) (q : Fin 300), i = ValueIdx.ix2 k q := ⟨i 0, i 1, ValueIdx.eq_ix2 i⟩
  obtain rfl : k = 0 := Subsingleton.elim _ _
  show _ = b (ValueIdx.ix1 q)
  rw [← ix2_eq_valueIdx, ← ix1_eq_valueIdx]
  pointwise []

/-- The first layer's bias as a row. -/
theorem entry_b1 (c : Dev nD) : (V1 m ρ c main_v3 : Arr 1 300) = rowOf (m ((c : Thread nD τ).loc main_arg5)) := by
  have e : V1 m ρ c main_v3 = (shapeCast S1x300 (m ((c : Thread nD τ).loc main_arg5)) shapeCasts_S300_S1x300 : FVec Ideal S1x300 .f32) := by
    show StableHlo.after hostOps0 (W0 m ρ c) (Proc.devRef .tc main_v3) = _
    after_results
    rfl
  exact e.trans (cast_row _)

/-- The second layer's bias as a row. -/
theorem entry_b2 (c : Dev nD) : (V1 m ρ c main_v4 : Arr 1 300) = rowOf (m ((c : Thread nD τ).loc main_arg7)) := by
  have e : V1 m ρ c main_v4 = (shapeCast S1x300 (m ((c : Thread nD τ).loc main_arg7)) shapeCasts_S300_S1x300 : FVec Ideal S1x300 .f32) := by
    show StableHlo.after hostOps0 (W0 m ρ c) (Proc.devRef .tc main_v4) = _
    after_results
    rfl
  exact e.trans (cast_row _)

/-- The gate's bias as a row. -/
theorem entry_bg (c : Dev nD) : (V1 m ρ c main_v5 : Arr 1 300) = rowOf (m ((c : Thread nD τ).loc main_arg9)) := by
  have e : V1 m ρ c main_v5 = (shapeCast S1x300 (m ((c : Thread nD τ).loc main_arg9)) shapeCasts_S300_S1x300 : FVec Ideal S1x300 .f32) := by
    show StableHlo.after hostOps0 (W0 m ρ c) (Proc.devRef .tc main_v5) = _
    after_results
    rfl
  exact e.trans (cast_row _)

/-! ## The result in terms of the arguments -/

/-- The kernel's group mean of molecule `j`. -/
def mean (fg : Arr 53248 133) (w1 : Arr 133 300) (b1 : S300.Idx → EReal) (w2 : Arr 300 300) (b2 : S300.Idx → EReal)
    (j : Fin 4096) (q : Fin 300) : EReal :=
  groupMean fg w1 (rowOf b1) w2 (rowOf b2) (fun k => ⟨j.val * 13 + k.val, by omega⟩) q

/-- The kernel's result at an atom: gated by its own entries and its molecule's group mean. -/
def value (x : Arr 102400 300) (fg : Arr 53248 133) (w1 : Arr 133 300) (b1 : S300.Idx → EReal) (w2 : Arr 300 300)
    (b2 : S300.Idx → EReal) (wg : Arr 600 300) (bg : S300.Idx → EReal) : Arr 102400 300 := fun i =>
  have j : Fin 4096 := ⟨(i 0).val / 25, by have := (i 0).isLt; change (i 0).val < 102400 at this; omega⟩
  gated (fun k => x (ValueIdx.ix2 (i 0) k)) (topOf wg)
    (dense (mean fg w1 b1 w2 b2 j) (botOf wg) (rowOf bg) (i 1)) (mean fg w1 b1 w2 b2 j (i 1)) (i 1)

/-- What the first launch leaves, in terms of the arguments: the group means, -/
theorem means_eq (c : Dev nD) (j : Fin 4096) (q : Fin 300) :
    StageA.means (V1 m ρ) c (ValueIdx.ix2 j q)
      = mean (m ((c : Thread nD τ).loc main_arg1)) (m ((c : Thread nD τ).loc main_arg4)) (m ((c : Thread nD τ).loc main_arg5))
          (m ((c : Thread nD τ).loc main_arg6)) (m ((c : Thread nD τ).loc main_arg7)) j q := by
  unfold StageA.means mean
  rw [entry_b1, entry_b2, show V1 m ρ c main_arg1 = _ from W1_args m ρ c main_arg1 (by decide),
    show V1 m ρ c main_arg4 = _ from W1_args m ρ c main_arg4 (by decide),
    show V1 m ρ c main_arg6 = _ from W1_args m ρ c main_arg6 (by decide)]

/-- and their gate terms. -/
theorem gates_eq (c : Dev nD) (j : Fin 4096) (q : Fin 300) :
    StageA.gates (V1 m ρ) c (ValueIdx.ix2 j q)
      = dense (mean (m ((c : Thread nD τ).loc main_arg1)) (m ((c : Thread nD τ).loc main_arg4)) (m ((c : Thread nD τ).loc main_arg5))
          (m ((c : Thread nD τ).loc main_arg6)) (m ((c : Thread nD τ).loc main_arg7)) j)
          (botOf (m ((c : Thread nD τ).loc main_arg8))) (rowOf (m ((c : Thread nD τ).loc main_arg9))) q := by
  unfold StageA.gates
  rw [entry_bot, entry_bg]
  exact congrArg (dense · _ _ q) (funext fun k => means_eq m ρ c j k)

/-- The second launch finds the group means the first left, -/
theorem entry2_means (c : Dev nD) : (V2 m ρ c main_v7_0 : Arr 4096 300) = StageA.means (V1 m ρ) c :=
  (W2_arr m ρ c 7).trans (StageA.final_7 (V1 m ρ) c)
/-- their gate terms, -/
theorem entry2_gates (c : Dev nD) : (V2 m ρ c main_v7_1 : Arr 4096 300) = StageA.gates (V1 m ρ) c :=
  (W2_arr m ρ c 8).trans (StageA.final_8 (V1 m ρ) c)
/-- the atoms, -/
theorem entry2_atoms (c : Dev nD) : (V2 m ρ c main_v6 : Arr 102400 300) = m ((c : Thread nD τ).loc main_arg0) :=
  (W2_of_ne m ρ c main_v6 (by decide)).trans (entry_atoms m ρ c)
/-- and the upper half of the gate's weights. -/
theorem entry2_top (c : Dev nD) : (V2 m ρ c main_v1 : Arr 300 300) = topOf (m ((c : Thread nD τ).loc main_arg8)) :=
  (W2_of_ne m ρ c main_v1 (by decide)).trans (entry_top m ρ c)

/-- The result array, in terms of the arguments. -/
theorem result_eq (c : Dev nD) :
    ((dat1 (V2 m ρ) c).arrAt 4 cfg1.N : Arr 102400 300)
      = value (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (StageB.final_4 (V2 m ρ) c).trans (funext fun i => ?_)
  show StageB.result (V2 m ρ) c i = _
  unfold StageB.result value
  rw [entry2_means, entry2_gates, entry2_atoms, entry2_top]
  exact congrArg₂ (fun g p => gated _ _ g p (i 1)) (gates_eq m ρ c _ (i 1)) (means_eq m ρ c _ (i 1))

end Cert.Proof.KernelRun
-- ==== Proof.Equation.lean ====
/-
  The equation behind the kernel: the mean may be taken before the second layer.

  The reference puts each of a molecule's thirteen rows of the hidden layer through the second layer, adds the bias, and
  takes the mean; the kernel takes the mean of the thirteen rows first and puts that through the layer once. Over the
  extended reals both are equal whatever the weights and biases: the hidden units are at least zero, so their sum
  multiplies out against any weight, infinite ones with them; the reciprocal of thirteen is a positive real, so it
  multiplies out over any sum; and thirteen copies of a bias, over thirteen, are that bias.
-/
module

public import Idealize.ShloMosaic.PureOps.Ideal

@[expose] public section

noncomputable section

namespace Cert.Proof.Equation

open Idealize.ShloMosaic

/-- A sum of terms at least zero multiplies out against any factor. -/
theorem sum_mul_of_nonneg {ι : Type} (s : Finset ι) (f : ι → EReal) (hf : ∀ i, 0 ≤ f i) (w : EReal) :
    (∑ i ∈ s, f i) * w = ∑ i ∈ s, f i * w := by
  classical
  induction s using Finset.induction_on with
  | empty => simp
  | insert a s ha ih =>
    rw [Finset.sum_insert ha, Finset.sum_insert ha, EReal.right_distrib_of_nonneg (hf a) (Finset.sum_nonneg fun i _ => hf i), ih]

/-- A factor at least zero and below infinity multiplies out over any sum. -/
theorem mul_sum_of_finite {ι : Type} (s : Finset ι) (f : ι → EReal) (c : EReal) (h0 : 0 ≤ c) (ht : c ≠ ⊤) :
    c * (∑ i ∈ s, f i) = ∑ i ∈ s, c * f i := by
  classical
  induction s using Finset.induction_on with
  | empty => simp
  | insert a s ha ih =>
    rw [Finset.sum_insert ha, Finset.sum_insert ha, EReal.left_distrib_of_nonneg_of_ne_top h0 ht, ih]

/-- The reciprocal of thirteen copies of `b`, summed, is `b`. -/
theorem thirteen_copies (b : EReal) : ((13⁻¹ : ℝ) : EReal) * (∑ _j : Fin 13, b) = b := by
  rw [Finset.sum_const, Finset.card_univ, Fintype.card_fin, EReal.nsmul_eq_mul, ← mul_assoc]
  have h : ((13⁻¹ : ℝ) : EReal) * ((13 : ℕ) : EReal) = 1 := by
    rw [show ((13 : ℕ) : EReal) = ((13 : ℝ) : EReal) from rfl, ← EReal.coe_mul]
    norm_num
  rw [h, one_mul]

/-- THE EQUATION: the mean of thirteen rows, put through a layer, is the mean of the thirteen rows put through it. -/
theorem mean_layer {K : ℕ} (h : Fin 13 → Fin K → EReal) (h0 : ∀ j k, 0 ≤ h j k) (w : Fin K → EReal) (b : EReal) :
    ∑ k, (∑ j, h j k) * ((13⁻¹ : ℝ) : EReal) * w k + b = Ideal.div (∑ j, (∑ k, h j k * w k + b)) ((13 : ℝ) : EReal) := by
  have c0 : (0 : EReal) ≤ ((13⁻¹ : ℝ) : EReal) := by exact_mod_cast (by norm_num : (0 : ℝ) ≤ 13⁻¹)
  have ct : ((13⁻¹ : ℝ) : EReal) ≠ ⊤ := EReal.coe_ne_top _
  rw [Ideal.div_coe (by norm_num), one_div, mul_comm _ ((13⁻¹ : ℝ) : EReal), Finset.sum_add_distrib,
    EReal.left_distrib_of_nonneg_of_ne_top c0 ct, thirteen_copies, Finset.sum_comm, mul_sum_of_finite _ _ _ c0 ct]
  refine congrArg (· + b) (Finset.sum_congr rfl fun k _ => ?_)
  rw [mul_comm (∑ j, h j k), mul_assoc, sum_mul_of_nonneg _ _ (fun j => h0 j k)]

/-- The literal thirteen the reference divides by. -/
theorem literal_thirteen : Ideal.ofBits .f32 0x41500000#32 = ((13 : ℝ) : EReal) := by
  simp [Ideal.ofBits, Ideal.ieee, -EReal.coe_mul]; norm_num

end Cert.Proof.Equation
-- ==== Proof.RefValue.lean ====
/-
  What the reference computes, at an index, and that it is the kernel's value.

  A group mean of the reference is the mean over thirteen rows of two layers; by the equation it is the kernel's. The
  reference's gate is one product of 600 terms, of the atom's entries and its molecule's group means side by side, against
  the whole of the gate's weights; it is the two halves' products, which the kernel takes apart and adds in another order.
  Its logistic is written out, `1 / (1 + exp (-x))`, and is the kernel's.
-/
module

public import proofs.«01_k».proof.Proof.Repeat
public import proofs.«01_k».proof.Proof.KernelRun
public import proofs.«01_k».proof.Proof.Equation

@[expose] public section

set_option maxRecDepth 16384

noncomputable section

namespace Cert.Proof.RefValue

open Idealize.ShloMosaic
open Cert.ReferenceIdeal Cert.ReferenceIdeal.Gen Cert.ReferenceIdeal.Read Cert.Proof.Blocks Cert.Proof.KernelRun

/-- The reference's group mean of molecule `j` is the mean of its thirteen rows put through both layers. -/
theorem mean_apply (x1 : Arr 53248 133) (x4 : Arr 133 300) (x5 : S300.Idx → EReal) (x6 : Arr 300 300)
    (x7 : S300.Idx → EReal) (j : Fin 4096) (q : Fin 300) :
    val_main_v13 (F := Ideal) x1 x4 x5 x6 x7 (ValueIdx.ix2 j q)
      = Ideal.div (∑ g : Fin 13, (∑ k, Blocks.hidden x1 x4 (rowOf x5) ⟨j.val * 13 + g.val, by omega⟩ k * x6 (ValueIdx.ix2 k q)
          + x7 (ValueIdx.ix1 q))) ((13 : ℝ) : EReal) := by
  unfold Blocks.hidden rowOf
  rw [← Equation.literal_thirteen]
  simp only [← ix2_eq_valueIdx, ← ix1_eq_valueIdx]
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

/-- By the equation it is the kernel's. -/
theorem mean_eq (x1 : Arr 53248 133) (x4 : Arr 133 300) (x5 : S300.Idx → EReal) (x6 : Arr 300 300)
    (x7 : S300.Idx → EReal) (j : Fin 4096) (q : Fin 300) :
    val_main_v13 (F := Ideal) x1 x4 x5 x6 x7 (ValueIdx.ix2 j q) = mean x1 x4 x5 x6 x7 j q :=
  (mean_apply x1 x4 x5 x6 x7 j q).trans
    (Equation.mean_layer (fun g k => Blocks.hidden x1 x4 (rowOf x5) ⟨j.val * 13 + g.val, by omega⟩ k) (fun _ _ => le_max_right _ _)
      (fun k => x6 (ValueIdx.ix2 k q)) (x7 (ValueIdx.ix1 q))).symm

/-- The reference's result at an atom, from the repeated group means: the gated sum. -/
theorem out_apply (x0 : Arr 102400 300) (x1 : Arr 53248 133) (x2 : S4096.Idx → BitVec 32) (x4 : Arr 133 300) (x5 : S300.Idx → EReal)
    (x6 : Arr 300 300) (x7 : S300.Idx → EReal) (x8 : Arr 600 300) (x9 : S300.Idx → EReal) (r : Fin 102400) (q : Fin 300) :
    val_main_v43 (F := Ideal) x0 x1 x2 x4 x5 x6 x7 x8 x9 (ValueIdx.ix2 r q)
      = gated (fun k => x0 (ValueIdx.ix2 r k)) (topOf x8)
          (dense (fun k => val_main_v30 (F := Ideal) x1 x2 x4 x5 x6 x7 (ValueIdx.ix2 r k)) (botOf x8) (rowOf x9) q)
          (val_main_v30 (F := Ideal) x1 x2 x4 x5 x6 x7 (ValueIdx.ix2 r q)) q := by
  unfold val_main_v43 val_main_v42 val_main_v41 val_main_v39 val_main_v37 val_main_v36 val_main_v35 val_main_v32 val_main_v31
  generalize val_main_v30 (F := Ideal) x1 x2 x4 x5 x6 x7 = P
  unfold gated dense topOf botOf rowOf Ideal.logistic
  rw [← add_assoc]
  simp only [← ix2_eq_valueIdx, ← ix1_eq_valueIdx]
  pointwise [val_main_v40, val_main_v38, val_main_v34, val_main_v33, val_main_cst_8, val_main_cst_9]

/-- Where every repeat count is 25 the reference's result is the kernel's value. -/
theorem out_eq (x0 : Arr 102400 300) (x1 : Arr 53248 133) (x2 : S4096.Idx → BitVec 32) (h25 : ∀ j, x2 j = 25#32) (x4 : Arr 133 300)
    (x5 : S300.Idx → EReal) (x6 : Arr 300 300) (x7 : S300.Idx → EReal) (x8 : Arr 600 300) (x9 : S300.Idx → EReal) :
    val_main_v43 (F := Ideal) x0 x1 x2 x4 x5 x6 x7 x8 x9 = value x0 x1 x4 x5 x6 x7 x8 x9 := by
  refine funext fun (i : S102400x300.Idx) => ?_
  obtain ⟨r, q, rfl⟩ : ∃ (r : Fin 102400) (q : Fin 300), i = ValueIdx.ix2 r q := ⟨i 0, i 1, ValueIdx.eq_ix2 i⟩
  have row : ∀ k : Fin 300, val_main_v30 (F := Ideal) x1 x2 x4 x5 x6 x7 (ValueIdx.ix2 r k)
      = mean x1 x4 x5 x6 x7 ⟨r.val / 25, by omega⟩ k := fun k =>
    (Repeat.repeated x2 h25 x1 x4 x5 x6 x7 r k ⟨r.val / 25, by omega⟩ rfl).trans (mean_eq x1 x4 x5 x6 x7 _ k)
  rw [out_apply]
  simp only [row]
  rfl

end Cert.Proof.RefValue
-- ==== Proof.lean ====
/-
  The proof of `Cert.Claim`: the kernel, its idealization and the reference run to the end with their arguments unchanged
  and every counter at zero; the idealization's named constant is the reciprocal of thirteen; and where every repeat count is
  25 the idealized kernel and the reference end with equal results.

  The modules: `Blocks` (what one block of each launch computes), `StageA` and `StageB` (the arrays the two launches
  leave), `KernelRun` (the kernel's run and its result in terms of its arguments), `Equation` (the mean may be taken before the
  second layer), `Repeat` (the reference's repeated rows), `RefValue` (the reference's result is the kernel's value), `Counts`
  (the precondition). This module puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_equal_molecules
public import proofs.«01_k».proof.Proof.Counts
public import proofs.«01_k».proof.Proof.RefValue
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs to the end with its arguments unchanged, and declares no semaphore. -/
theorem reference_quiescent : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant is the reciprocal of thirteen. -/
theorem preserves : Cert.preserves_Kernel_KernelIdeal :=
  IdealRules.named_const.statement Cert.KernelIdeal.κ "inv_groups" .f32 0x3D9D89D9#32 ((13⁻¹ : ℝ) : EReal) rfl

/-- Both results are the kernel's value of the arguments, which agree. -/
theorem algebraic : Cert.algebraic_KernelIdeal_ReferenceIdeal_pre_equal_molecules := by
  intro m ρ m' ρ' hpre hagree
  refine ⟨fun c => KernelRun.value (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9)), ?_, ?_⟩
  · exact (θ_run Cert.KernelIdeal.defs _ _).mono (fun _ h c => ⟨(h c).1.trans (KernelRun.result_eq m ρ c), (h c).2⟩)
      (KernelRun.run_read (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v43_eq, a0, a1, a2, a4, a5, a6, a7, a8, a9]
    exact RefValue.out_eq _ _ _ (fun j => Counts.all_25 _ _ _ _ _ _ _ _ _ _ (fun d => d.elim0) (congrFun (hpre c) _) j) _ _ _ _ _ _

/-- All the claims together, with the witnesses of the programs' stated facts. -/
theorem claim : Cert.Claim :=
  ⟨Cert.Kernel.Gen.facts, Cert.KernelIdeal.Gen.facts, Cert.ReferenceIdeal.Gen.facts, Cert.Pre_equal_molecules.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    preserves,
    algebraic⟩

end Cert.Proof

end
